-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16384 : Shape := ⟨1, ![16384]⟩
abbrev S_ : Shape := ⟨0, ![]⟩

abbrev nBuf : Table → Nat
  | .hbm => 2
  | _ => 0

abbrev bufTy : (tb : Table) → Fin (nBuf tb) → BufTy
  | .hbm, ⟨0, _⟩ => ⟨S16384, .f32⟩
  | .hbm, ⟨1, _⟩ => ⟨S16384, .f32⟩
  | _, _ => ⟨S16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S16384 : Shape := ⟨1, ![16384]⟩

abbrev nBuf : Space → Nat
  | .hbm => 1
  | .vmem => 0
  | .smem => 0
  | _ => 0

abbrev bufTy : (tb : Table) → Fin (tcTables nBuf tb) → BufTy
  | .hbm, ⟨0, _⟩ => ⟨S16384, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Identity.lean ====
/-
  The reference's run. The reference returns its argument and does nothing else: every execution terminates with the
  argument as it was and every semaphore counter at zero. Stated once, over any float values and operations; both
  readings of the reference are instances of it.
-/
module

public import proofs.«01_k».proof.Defs
public import Idealize.ShloMosaic.Lib.StableHlo.Run
public import proofs.«01_k».proof.Proof.Gen.ReferenceIdeal

@[expose] public section

noncomputable section

namespace Cert.Proof.Identity

open Cert.ReferenceIdeal Cert.ReferenceIdeal.Gen
open Idealize.ShloMosaic Idealize.ShloMosaic.TcCoe Idealize.ShloMosaic.StableHlo Idealize.SL.Sem

variable {F : FTy → Type} [FloatOps F]

/-- The reference's run: a program of no operations, which leaves the argument as it was and no counter raised. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ d : Dev nD, r.2.mem ((d.tc : Thread nD τ).loc main_arg0) = m ((d.tc : Thread nD τ).loc main_arg0)) ∧ r.2.sem = fun _ => 0 := by
  refine (θ_run _ _ _).mono (fun r h => ⟨fun d => h d main_arg0, funext fun g => ?_⟩)
    (run_seq (by decide) (by decide) (defs (F := F)) main (fun _ => []) (fun _ => rfl) (fun _ => trivial) m ρ)
  -- the program has no semaphore
  exact match g with
    | (_, .reg s) => Fin.elim0 s
    | (_, .dma s) => Fin.elim0 s

end Cert.Proof.Identity

end
-- ==== Proof.Copy.lean ====
/-
  What the SparseCore kernel does on its sequencer. The kernel is one copy of the whole vector `x` into the whole
  result `y`, issued on a semaphore of the kernel's own and waited for there. From `x` and `y` it brings back `x`
  unchanged and `y` equal to `x` (`copy_body`). Nothing here depends on what the floats are: every statement is over
  any family `F` of float values with any operations.
-/
module

public import proofs.«01_k».proof.Defs
public import Idealize.ShloMosaic.Lib.SparseCore.Quiescent
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Copy

open Cert.KernelIdeal Cert.KernelIdeal.Gen
open Idealize.ShloMosaic Idealize.ShloMosaic.Rounds Idealize.ShloMosaic.Tactic
open Idealize.ShloMosaic.SparseCore (S)
open Idealize.ShloMosaic.SparseCore.Cfg (HIx ownSems0 ownCells mem_ownCells)
open Idealize.SL Idealize.SL.RA Idealize.SL.BI Idealize.SL.Sem Idealize.SL.ProofMode
open Idealize.SL.BI.BIBase Idealize.SL.BI.Laws
open scoped Idealize.SL.BI

variable {F : FTy → Type}

/-! ## The launch's vocabulary -/

/-- The program's one SparseCore call, as a launch. -/
abbrev K : SparseCore.Cfg τ sig (Pipeline.Sig Λ₀ (Fin 0) fun p => (pcfgs (F := F) p).Adm) 1 := sc (F := F)

/-- Ghost state: the handshakes' rounds, and the counters of the transfers that a thread waits for itself. -/
abbrev UU : Type := URounds (GSem nD τ sig) ℕ × Counters

local notation "𝕄" => MT nD τ sig (HIx 1) (Elt F) ℕ UU ℕ

-- the two arrays as the printed body table passes them to the kernel
local notation "xRef" => (Memref.whole Cert.KernelIdeal.main_arg0_scs : Memref Cert.KernelIdeal.sig Kind.scScalar Space.hbm Cert.KernelIdeal.S16384 EltTy.f32)
local notation "yRef" => (Memref.whole Cert.KernelIdeal.main_v0_scs : Memref Cert.KernelIdeal.sig Kind.scScalar Space.hbm Cert.KernelIdeal.S16384 EltTy.f32)

/-- The argument `x` on device `d`. -/
abbrev xLoc (d : Dev nD) : Loc nD τ sig := (SparseCore.T d).loc main_arg0
/-- The result `y` on device `d`. -/
abbrev yLoc (d : Dev nD) : Loc nD τ sig := (SparseCore.T d).loc main_v0

/-- Both arrays of device `d`, owned whole: `x` with contents `u`, `y` with contents `w`. -/
abbrev arrays (d : Dev nD) (u : Buf (Elt F) (xLoc d)) (w : Buf (Elt F) (yLoc d)) : sProp 𝕄 :=
  iprop((xLoc d ↦{fullShare} u) ∗ yLoc d ↦{fullShare} w)

/-- The sequencer of SparseCore `c`'s thread, `c` a coordinate of the kernel's grid. -/
abbrev seqr (d : Dev nD) (c : Fin (grid0.bound 0)) : Thread nD τ := S d (c.castLE hcore0)

/-- The semaphore that the copy credits and its wait drains. -/
abbrev copySem (d : Dev nD) (c : Fin (grid0.bound 0)) : GSem nD τ sig := (seqr d c, .dma cc0_scoped0.sem)

/-! ## The semaphore among the sequencer's -/

/-- The sequencer's own scoped semaphores at zero are the copy's and the rest. -/
theorem ownSems0_copySem (d : Dev nD) (c : Fin (grid0.bound 0)) :
    (ownSems0 (seqr d c) : sProp 𝕄)
      = iprop(semVal (copySem d c) 0 ∗ bigSep ((ownCells (seqr d c)).erase (copySem d c)) fun g => semVal g 0) := by
  have hscoped : (SemLoc.dma cc0_scoped0.sem : SemLoc sig).isScoped .scScalar = true := by decide
  exact SparseCore.bigSep_erase' ((mem_ownCells (g := copySem d c)).mpr ⟨rfl, hscoped⟩)

variable [FloatOps F]

/-! ## The copy -/

/-- Writing the whole of what `x` holds over the whole of `y` leaves in `y` what `x` holds. -/
theorem y_after (d : Dev nD) (u : Buf (Elt F) (xLoc d)) (w : Buf (Elt F) (yLoc d)) :
    (yRef).view.write (Elt F) w ((xRef).view.read (Elt F) u) Finset.univ = u :=
  View.write_whole_univ _ _ _

/-- The kernel on a sequencer, whatever that thread owes its launch (`O`) and has waited for (`W`): from `x` holding
    `u` and `y` holding anything it ends with `x` still holding `u` and `y` holding `u`, its scoped buffers and
    semaphores given back, the debt as it was, and no wait recorded but its own. -/
theorem copy_body (d : Dev nD) (L : grid0.Coords)
    (O : CellTallies nD τ sig (HIx 1)) (W : Waits sig (HIx 1)) (hO : ∀ g, O g none = 0)
    (u : Buf (Elt F) (xLoc d)) (w : Buf (Elt F) (yLoc d)) :
    iprop(levAts (K (F := F)).L (K (F := F)).lev ∗ arrays d u w ∗ scopedBufs (seqr d (L 0)) ∗ scopedSems0 (seqr d (L 0))
        ∗ owes (seqr d (L 0)) O W)
      ⊢ wp frame (wpE (defs₀ (F := F)) Variants.none (seqr d (L 0)) none) Set.univ
          (cc0__sc_copy L xRef (Memref.isWhole_whole _) yRef (Memref.isWhole_whole _) cc0_scoped0)
          fun _ => iprop(arrays d u u ∗ scopedBufs (seqr d (L 0)) ∗ scopedSems0 (seqr d (L 0))
            ∗ ∃ W', ⌜∀ p ∈ W', p ∈ W ∨ p.2 = none⌝ ∗ owes (seqr d (L 0)) O W') := by
  rw [cc0__sc_copy_eq_skeleton]; unfold cc0__sc_copy_skel
  iintro ⟨#Hlev, ⟨Hx, Hy⟩, Hbufs, Hsems, Howes⟩
  ihave Hmay := ((K (F := F)).mayWaits_none (thr := seqr d (L 0)) hO) $$ Hlev
  ihave Hsplit := (SparseCore.Cfg.scopedSems0_S_elim (Val := Elt F) d ((L 0).castLE hcore0)) $$ Hsems
  icases Hsplit with ⟨Hmine, Htiles⟩
  ihave Hcells := (Entails.of_eq (ownSems0_copySem (F := F) d (L 0))) $$ Hmine
  icases Hcells with ⟨Hsem, Hothers⟩
  ihave Hsrc := (show (xLoc d ↦{fullShare} u : sProp 𝕄) ⊢ ((xRef).view.loc (seqr d (L 0)) ↦{fullShare} u) from .rfl) $$ Hx
  ihave Hdst := (show (yLoc d ↦{fullShare} w : sProp 𝕄) ⊢ ((yRef).view.loc (seqr d (L 0)) ↦{fullShare} w) from .rfl) $$ Hy
  sl_exec
  sl_step
  isplitl [Hsrc Hsem_dst]
  · isplitl [Hsrc]
    · iexact Hsrc
    · rw [show copy_body.sl.dma0 d u = (xRef).view.read (Elt F) u from rfl, y_after d u w]
      iexact Hsem_dst
  isplitl [Hbufs]; · iexact Hbufs
  isplitl [Hsem Hothers Htiles]
  · iapply (SparseCore.Cfg.scopedSems0_S_intro (Val := Elt F) d ((L 0).castLE hcore0))
    isplitl [Hsem Hothers]
    · rw [ownSems0_copySem]
      isplitl [Hsem]
      · iexact Hsem
      · iexact Hothers
    · iexact Htiles
  iexists _
  isplitr
  rotate_left
  · iexact Howes
  · ipureintro
    exact fun p hp => (Finset.mem_insert.mp hp).elim (fun e => .inr (e ▸ rfl)) .inl

end Cert.Proof.Copy

end
-- ==== Proof.Launch.lean ====
/-
  The kernel's whole program, run: the TensorCore starts the one SparseCore call and waits for it, SparseCore 0's
  sequencer runs the copy (Copy.lean), the other threads have nothing to do. Every weakly fair execution terminates
  without fault, the argument `x` as it was, the result equal to `x`, every semaphore counter at zero (`run`).
  Stated once, over any float values and operations; both readings of the program are instances of it.
-/
module

public import proofs.«01_k».proof.Proof.Copy

@[expose] public section

noncomputable section

namespace Cert.Proof.Copy

open Cert.KernelIdeal Cert.KernelIdeal.Gen
open Idealize.ShloMosaic Idealize.ShloMosaic.Rounds Idealize.ShloMosaic.Tactic
open Idealize.ShloMosaic.SparseCore (S)
open Idealize.ShloMosaic.SparseCore.Cfg (HIx)
open Idealize.SL Idealize.SL.RA Idealize.SL.BI Idealize.SL.Sem Idealize.SL.ProofMode
open Idealize.SL.BI.BIBase Idealize.SL.BI.Laws
open scoped Idealize.SL.BI

variable {F : FTy → Type}

local notation "𝕄" => MT nD τ sig (HIx 1) (Elt F) ℕ UU ℕ

-- the two arrays as the printed body table passes them to the kernel
local notation "xRef" => (Memref.whole Cert.KernelIdeal.main_arg0_scs : Memref Cert.KernelIdeal.sig Kind.scScalar Space.hbm Cert.KernelIdeal.S16384 EltTy.f32)
local notation "yRef" => (Memref.whole Cert.KernelIdeal.main_v0_scs : Memref Cert.KernelIdeal.sig Kind.scScalar Space.hbm Cert.KernelIdeal.S16384 EltTy.f32)

/-- The handshakes' ghost state inside the machine's. -/
abbrev EH : Emb (URounds (GSem nD τ sig) ℕ) (MT nD τ sig (HIx 1) (Elt F) ℕ UU ℕ) := embL

/-- The launch semaphores are distinct and no kernel's, and no buffer is a SparseCore's shared one. -/
theorem launchFacts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq _ := rfl

variable (m : (ℓ : Loc nD τ sig) → Buf (Elt F) ℓ) (ρ : Dev nD → PrngReg)

/-- What the call carries: to the sequencer `x` and `y` as the launch finds them, back from it `y` equal to `x`. -/
def pay : (K (F := F)).Pay (nD := nD) (Val := Elt F) (Name := ℕ) (U := UU) where
  st _ d _ := arrays d (m (xLoc d)) (m (yLoc d))
  dn _ d _ := arrays d (m (xLoc d)) (m (xLoc d))
  go _ _ _ _ := iprop(emp)
  td _ _ _ _ := iprop(emp)
  x _ _ := iprop(emp)

instance pay_storable : (pay m).IsStorable where
  st _ _ _ := by unfold pay; infer_instance
  dn _ _ _ := by unfold pay; infer_instance
  go _ _ _ _ := by unfold pay; infer_instance
  td _ _ _ _ := by unfold pay; infer_instance

/-- The call runs on one SparseCore, so what it takes is that one's share, -/
theorem takes (d : Dev nD) :
    (bigSep Finset.univ fun c : Fin ((K (F := F)).nCore 0) => (pay m).st 0 d c) = arrays d (m (xLoc d)) (m (yLoc d)) :=
  bigSep_univ_of_subsingleton (0 : Fin 1)
/-- and what it gives back likewise. -/
theorem brings (d : Dev nD) :
    (bigSep Finset.univ fun c : Fin ((K (F := F)).nCore 0) => (pay m).dn 0 d c) = arrays d (m (xLoc d)) (m (xLoc d)) :=
  bigSep_univ_of_subsingleton (0 : Fin 1)

/-- At the launch the TensorCore holds `x` and `y`: the program has no other unscoped buffer. -/
theorem unscoped_arrays (d : Dev nD) :
    (unscopedBufs d (fun b => m ((SparseCore.T d).loc b)) : sProp 𝕄) = arrays d (m (xLoc d)) (m (yLoc d)) := by
  have two : (Finset.univ.filter fun b : Ref sig .tc => ¬ b.isScoped) = {main_arg0, main_v0} := by decide
  unfold unscopedBufs
  rw [two, SparseCore.bigSep_insert' (by decide), bigSep_singleton]

/-- The launch's ghost state: the handshakes' rounds, fresh. -/
def ghost : UU := (initOf (K (F := F)).hsCells (K (F := F)).hsToks, 1)

/-- It pays for the handshakes, and nothing else is asked for. -/
theorem ghost_deal : (ownU (ghost (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (pay m).x q thr) := by
  have none_asked : (bigSep Finset.univ fun thr : Thread nD τ => bigSep Finset.univ fun q : Fin 1 => (pay m).x q thr) = (iprop(emp) : sProp 𝕄) :=
    (bigSep_congr fun _ _ => bigSep_emp_const _).trans (bigSep_emp_const _)
  rw [none_asked, show (bigSep Finset.univ fun _ : Dev nD => (iprop(emp) : sProp 𝕄)) = iprop(emp) from bigSep_emp_const _]
  iintro Hu
  ihave Hpair := (ownU_pair _ _) $$ Hu
  icases Hpair with ⟨Hrounds, -⟩
  imodintro
  isplitl [Hrounds]; · iexact Hrounds
  isplitr <;> iempintro

variable [FloatOps F]

/-! ## The sequencer's obligation -/

/-- The kernel's coordinates on SparseCore `c`. -/
def coords (c : Fin (grid0.bound 0)) : grid0.Coords := fun | 0 => c | ⟨_ + 1, h⟩ => absurd h (Nat.not_lt.2 (Nat.le_add_left _ _))

/-- What the body table runs on a sequencer: the kernel at that SparseCore's coordinates. -/
theorem table_entry (c : Fin τ.nSC) :
    defs₀ (F := F) (.scScalar c) 0 ()
      = SparseCore.onCore hcore0 (fun c => cc0__sc_copy (coords c) xRef (Memref.isWhole_whole _) yRef (Memref.isWhole_whole _) cc0_scoped0) ⟨⟩ c := rfl

/-- The sequencer keeps the launch's contract: from `x` and `y` it brings back `y` equal to `x`. -/
theorem sequencer : (K (F := F)).ScalarObl (Pipeline.defs pcfgs defs₀) Variants.none.lift (pay m) (Sum.inl none) 0 := by
  intro d c O W hO _ _
  rw [show (pay m).ox 0 (S d ((K (F := F)).core 0 c)) = 0 from rfl, add_zero]
  change _ ⊢ wp _ _ _ (Pipeline.liftProg (defs₀ (F := F) (.scScalar ((K (F := F)).core 0 c)) 0 ())) _
  refine BI.Entails.trans ?_ (Pipeline.wp_liftProg (Pipeline.defs pcfgs defs₀) (Pipeline.defs_kernel pcfgs defs₀) Variants.none _ Set.univ none _ _)
  have hc : ((K (F := F)).core 0 c).val < grid0.bound 0 := c.isLt
  rw [table_entry]; simp only [SparseCore.onCore, hc, ↓reduceDIte]
  refine BI.Entails.trans ?_ ((copy_body d (coords ⟨_, hc⟩) O W hO (m (xLoc d)) (m (yLoc d))).trans (wp_mono frame _ _ fun _ => ?_))
  · show iprop(_ ∗ emp ∗ arrays d (m (xLoc d)) (m (yLoc d)) ∗ _) ⊢ _
    iintro ⟨Hlev, -, Hrest⟩
    isplitl [Hlev]; · iexact Hlev
    iexact Hrest
  · show _ ⊢ iprop(arrays d (m (xLoc d)) (m (xLoc d)) ∗ _)
    iintro ⟨Harr, Hbufs, Hsems, %W', %hW', Howes⟩
    isplitl [Harr]; · iexact Harr
    isplitl [Hbufs]; · iexact Hbufs
    isplitl [Hsems]; · iexact Hsems
    iexists W'
    isplitr
    · ipureintro; exact fun p hp => (hW' p hp).imp_right .inl
    · iexact Howes

/-! ## The TensorCore's program -/

/-- @main: the call, with `x` and `y` lent to it, and the return. -/
theorem main_runs (κ : GSem nD τ sig → ℕ) (d : Dev nD) :
    iprop((K (F := F)).ctx EH (pay m) κ ∗ (K (F := F)).tcSt EH d 0 ∗ (K (F := F)).tcRes m ρ d ∗ emp)
      ⊢ wp frame (wpE ((K (F := F)).defs (Pipeline.defs pcfgs defs₀)) Variants.none.lift (SparseCore.T d) none) Set.univ (main d)
          fun _ => iprop((K (F := F)).tcSt EH d 1 ∗ arrays d (m (xLoc d)) (m (xLoc d)) ∗ (K (F := F)).tcEnd d) := by
  unfold SparseCore.Cfg.tcRes SparseCore.Cfg.tcEnd
  rw [unscoped_arrays]
  simp only [main, wp_bind, wp_pure]
  iintro ⟨#Hctx, Hst, ⟨Hbound, Harr, Hsems, -⟩, -⟩
  iapply ((K (F := F)).wp_run (Pipeline.defs pcfgs defs₀) Variants.none.lift (EH := EH) (P := pay m) κ d 0) $$ [Hst Hbound Harr Hsems]
  isplitr; · iexact Hctx
  isplitl [Hst]; · iexact Hst
  isplitl [Harr]
  · rw [takes]; iexact Harr
  rw [brings]
  iintro ⟨Hst, Harr⟩
  imodintro
  isplitl [Hst]; · iexact Hst
  isplitl [Harr]; · iexact Harr
  isplitl [Hbound] <;> iassumption

/-! ## The run -/

/-- What the two arrays of device `d` hold in memory `s`: the result equals the argument, and that is as at the launch. -/
def Copied (d : Dev nD) (s : MemSt nD τ sig (Elt F)) : Prop := s.mem (yLoc d) = m (xLoc d) ∧ s.mem (xLoc d) = m (xLoc d)

omit [FloatOps F] in
/-- Whoever owns both arrays at those contents knows that the memory holds them. -/
theorem copied_of_arrays (d : Dev nD) (s : Phys nD τ sig (Elt F)) :
    iprop(arrays d (m (xLoc d)) (m (xLoc d)) ∗ SI s) ⊢ (⌜Copied m d s.mem⌝ : sProp 𝕄) := by
  iintro ⟨⟨Hx, Hy⟩, HSI⟩
  ihave Hkept := (persistent_entails_right (SI_pointsTo_agree (st := s) (ℓ := xLoc d) (I := Finset.univ) (q := fullShare) (f := m (xLoc d)))) $$ [HSI Hx]
  · isplitl [HSI] <;> iassumption
  icases Hkept with ⟨%hx, HSI, -⟩
  ihave Hy' := (SI_pointsTo_agree (st := s) (ℓ := yLoc d) (I := Finset.univ) (q := fullShare) (f := m (xLoc d))) $$ [HSI Hy]
  · isplitl [HSI] <;> iassumption
  icases Hy' with %hy
  ipureintro
  exact ⟨funext fun i => hy i (Finset.mem_univ i), funext fun i => hx i (Finset.mem_univ i)⟩

/-- Every weakly fair execution of all the program's threads terminates without fault, on every device the result equal
    to the argument and the argument unchanged, and every semaphore counter at zero. -/
theorem run [∀ e, Nonempty (Elt F e)] :
    θ_run (defs (F := F)) (threads (F := F)) ⟨m, fun _ => 0, ρ⟩ fun r => (∀ d, Copied m d r.2) ∧ r.2.sem = fun _ => 0 :=
  SparseCore.Cfg.θ_run_sc_quiescent (K := K (F := F)) (D := Pipeline.defs pcfgs defs₀) (𝒱 := Variants.none.lift) (EH := EH) (P := pay m) (A := ∅)
    launchFacts (Sum.inl none)
    (fun q _ => match q with | 0 => sequencer m)
    (fun q hq => match q with | 0 => nomatch hq)
    (fun q hq => match q with | 0 => nomatch hq)
    m ρ main (fun _ => iprop(emp)) (fun d => arrays d (m (xLoc d)) (m (xLoc d))) (ghost (F := F))
    (sep_elim_left.trans (ghost_deal m)) (main_runs m ρ) (fun d s => Copied m d s.mem) (copied_of_arrays m) _ fun _ h hz => ⟨h, hz⟩

end Cert.Proof.Copy

end
-- ==== Proof.lean ====
/-
  The certificate of the SparseCore copy kernel: the frames of the four programs, and that kernel and reference compute
  the same function, over the extended reals and word for word. Both runs are stated once, over any float values
  (`Copy.run` in Proof/Launch.lean, `Identity.run` in Proof/Identity.lean), and read here at each instance.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.ReferenceIdeal
public import proofs.«01_k».proof.Proof.Identity
public import proofs.«01_k».proof.Proof.Launch
public import Idealize.ShloMosaic.Adequacy
public import Idealize.ShloMosaic.Init

@[expose] public section

noncomputable section

namespace Cert.Proof

open Idealize.ShloMosaic Idealize.SL.Sem

/-- The kernel as printed ends with its argument as it was and its semaphores at zero, -/
theorem frame_kernel : Cert.quiescent_Kernel := fun m ρ _ =>
  (θ_run Cert.KernelIdeal.defs _ _).mono (fun _ h => ⟨fun d => (h.1 d).2, h.2⟩) (Copy.run (F := Bits) m ρ)

/-- and so does the kernel over the extended reals. -/
theorem frame_kernel_ideal : Cert.quiescent_KernelIdeal := fun m ρ _ =>
  (θ_run Cert.KernelIdeal.defs _ _).mono (fun _ h => ⟨fun d => (h.1 d).2, h.2⟩) (Copy.run (F := Ideal) m ρ)

/-- The reference as printed ends with its argument as it was and its semaphores at zero, -/
theorem frame_reference : Cert.quiescent_Reference := fun m ρ _ => Identity.run (F := Bits) m ρ

/-- and so does the reference over the extended reals. -/
theorem frame_reference_ideal : Cert.quiescent_ReferenceIdeal := fun m ρ _ => Identity.run (F := Ideal) m ρ

/-- Over the extended reals the kernel's result is the reference's: both are the argument. -/
theorem algebraic : Cert.algebraic_KernelIdeal_ReferenceIdeal := fun m ρ m' ρ' _ same =>
  ⟨fun d => m (Copy.xLoc d), (θ_run Cert.KernelIdeal.defs _ _).mono (fun _ h d => h.1 d) (Copy.run (F := Ideal) m ρ),
    (θ_run Cert.ReferenceIdeal.defs _ _).mono (fun _ h d => ⟨(h.1 d).trans (same d), h.1 d⟩) (Identity.run (F := Ideal) m' ρ')⟩

/-- Word for word the kernel's result is the reference's: both are the argument. -/
theorem bitexact : Cert.bitexact_Kernel_Reference := fun m ρ m' ρ' _ same =>
  ⟨fun d => m (Copy.xLoc d), (θ_run Cert.KernelIdeal.defs _ _).mono (fun _ h d => h.1 d) (Copy.run (F := Bits) m ρ),
    (θ_run Cert.ReferenceIdeal.defs _ _).mono (fun _ h d => ⟨(h.1 d).trans (same d), h.1 d⟩) (Identity.run (F := Bits) m' ρ')⟩

/-- All the claims. -/
theorem claim : Cert.Claim :=
  ⟨Cert.Kernel.Gen.facts, Cert.KernelIdeal.Gen.facts, Cert.Reference.Gen.facts, Cert.ReferenceIdeal.Gen.facts,
    frame_kernel, frame_kernel_ideal, frame_reference, frame_reference_ideal, trivial, algebraic, bitexact⟩

end Cert.Proof

end
